-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_mask_and_bias [hPre_zero_mask_and_bias : Cert.Pre_zero_mask_and_bias.Facts] (m : (ℓ : Loc Cert.KernelIdeal.nD Cert.KernelIdeal.τ Cert.KernelIdeal.sig) → Buf (Elt Ideal) ℓ) : Prop :=
  ∀ c : Dev Cert.KernelIdeal.nD,
    (Cert.Pre_zero_mask_and_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_mask_and_bias [hPre_zero_mask_and_bias : Cert.Pre_zero_mask_and_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_mask_and_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_zero_mask_and_bias [hKernelIdeal : Cert.KernelIdeal.Facts] [hPre_zero_mask_and_bias : Cert.Pre_zero_mask_and_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_mask_and_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_zero_mask_and_bias [hReferenceIdeal : Cert.ReferenceIdeal.Facts] [hPre_zero_mask_and_bias : Cert.Pre_zero_mask_and_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_mask_and_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_zero_mask_and_bias [hKernelIdeal : Cert.KernelIdeal.Facts] [hReferenceIdeal : Cert.ReferenceIdeal.Facts] [hPre_zero_mask_and_bias : Cert.Pre_zero_mask_and_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_mask_and_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_zero_mask_and_bias : Cert.Pre_zero_mask_and_bias.Facts),
    quiescent_Kernel (hKernel := hKernel)
    ∧ quiescent_KernelIdeal (hKernelIdeal := hKernelIdeal)
    ∧ quiescent_KernelIdeal_pre_zero_mask_and_bias (hKernelIdeal := hKernelIdeal) (hPre_zero_mask_and_bias := hPre_zero_mask_and_bias)
    ∧ quiescent_ReferenceIdeal (hReferenceIdeal := hReferenceIdeal)
    ∧ quiescent_ReferenceIdeal_pre_zero_mask_and_bias (hReferenceIdeal := hReferenceIdeal) (hPre_zero_mask_and_bias := hPre_zero_mask_and_bias)
    ∧ preserves_Kernel_KernelIdeal
    ∧ algebraic_KernelIdeal_ReferenceIdeal_pre_zero_mask_and_bias (hKernelIdeal := hKernelIdeal) (hReferenceIdeal := hReferenceIdeal) (hPre_zero_mask_and_bias := hPre_zero_mask_and_bias)
-- ==== Pre_zero_mask_and_bias.lean ====
abbrev S16x32x8192 : Shape := ⟨3, ![16, 32, 8192]⟩
abbrev S2x64 : Shape := ⟨2, ![2, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16x32x8192 : S_.BroadcastsInDim S16x32x8192 (![] : Fin 0 → Fin S16x32x8192.rank)
  reducesTo_S16x32x8192_S_d0_1_2 : S16x32x8192.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S16x32x8192 .f32) (main_arg1 : FVec F S16x32x8192 .f32) (main_arg2 : FVec F S16x32x8192 .f32) (main_arg3 : FVec F S2x64 .f32) (main_arg4 : FVec F S64 .f32) (main_arg5 : FVec F S64x1 .f32) (main_arg6 : FVec F S1 .f32) : IVec S_ 1 :=
  let main_cst : FVec F S_ .f32 := constant S_ .f32 0x00000000#32
  let main_v0 : FVec F S16x32x8192 .f32 := broadcastInDim S16x32x8192 ![] bcast_S_S16x32x8192 main_cst
  let main_v1 : IVec S16x32x8192 1 := cmpf .oeq main_arg2 main_v0
  let main_c : IVec S_ 1 := constantI S_ 1 1#1
  let main_v2 : IVec S_ 1 := (fun x v => Host.reduce IntOp.andi x v reducesTo_S16x32x8192_S_d0_1_2 h_S_) main_v1 main_c
  let main_cst_0 : FVec F S_ .f32 := constant S_ .f32 0x00000000#32
  let main_v3 : FVec F S64 .f32 := broadcastInDim S64 ![] bcast_S_S64 main_cst_0
  let main_v4 : IVec S64 1 := cmpf .oeq main_arg4 main_v3
  let main_c_1 : IVec S_ 1 := constantI S_ 1 1#1
  let main_v5 : IVec S_ 1 := (fun x v => Host.reduce IntOp.andi x v reducesTo_S64_S_d0 h_S_) main_v4 main_c_1
  let main_v6 : IVec S_ 1 := andi main_v2 main_v5
  main_v6
-- ==== Kernel.lean ====
abbrev S16x32x8192 : Shape := ⟨3, ![16, 32, 8192]⟩
abbrev S2x64 : Shape := ⟨2, ![2, 64]⟩
abbrev S64 : Shape := ⟨1, ![64]⟩
abbrev S64x1 : Shape := ⟨2, ![64, 1]⟩
abbrev S1 : Shape := ⟨1, ![1]⟩
abbrev S512x8192 : Shape := ⟨2, ![512, 8192]⟩
abbrev S_ : Shape := ⟨0, ![]⟩
abbrev S8x64 : Shape := ⟨2, ![8, 64]⟩
abbrev S1x64 : Shape := ⟨2, ![1, 64]⟩
abbrev S512x1 : Shape := ⟨2, ![512, 1]⟩
abbrev S16x32 : Shape := ⟨2, ![16, 32]⟩
abbrev S32x8192 : Shape := ⟨2, ![32, 8192]⟩
abbrev S32x1 : Shape := ⟨2, ![32, 1]⟩
abbrev S32x512 : Shape := ⟨2, ![32, 512]⟩
abbrev S1x1 : Shape := ⟨2, ![1, 1]⟩
abbrev S32 : Shape := ⟨1, ![32]⟩

abbrev nBuf : Space → Nat
  | .hbm => 41
  | .vmem => 9
  | .smem => 1
  | _ => 0

abbrev bufTy : (tb : Table) → Fin (tcTables nBuf tb) → BufTy
  | .hbm, ⟨0, _⟩ => ⟨S16x32x8192, .f32⟩
  | .hbm, ⟨1, _⟩ => ⟨S16x32x8192, .f32⟩
  | .hbm, ⟨2, _⟩ => ⟨S16x32x8192, .f32⟩
  | .hbm, ⟨3, _⟩ => ⟨S2x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S512x8192, .f32⟩
  | .hbm, ⟨8, _⟩ => ⟨S512x8192, .f32⟩
  | .hbm, ⟨9, _⟩ => ⟨S2x64, .bf16⟩
  | .hbm, ⟨10, _⟩ => ⟨S2x64, .f32⟩
  | .hbm, ⟨11, _⟩ => ⟨S64x1, .bf16⟩
  | .hbm, ⟨12, _⟩ => ⟨S64x1, .f32⟩
  | .hbm, ⟨13, _⟩ => ⟨S_, .f32⟩
  | .hbm, ⟨14, _⟩ => ⟨S8x64, .f32⟩
  | .hbm, ⟨15, _⟩ => ⟨S1x64, .f32⟩
  | .hbm, ⟨16, _⟩ => ⟨S64, .f32⟩
  | .hbm, ⟨17, _⟩ => ⟨S_, .i32⟩
  | .hbm, ⟨18, _⟩ => ⟨S1, .i32⟩
  | .hbm, ⟨19, _⟩ => ⟨S8x64, .f32⟩
  | .hbm, ⟨20, _⟩ => ⟨S1x64, .f32⟩
  | .hbm, ⟨21, _⟩ => ⟨S64, .f32⟩
  | .hbm, ⟨22, _⟩ => ⟨S_, .i32⟩
  | .hbm, ⟨23, _⟩ => ⟨S1, .i32⟩
  | .hbm, ⟨24, _⟩ => ⟨S8x64, .f32⟩
  | .hbm, ⟨25, _⟩ => ⟨S_, .i32⟩
  | .hbm, ⟨26, _⟩ => ⟨S1, .i32⟩
  | .hbm, ⟨27, _⟩ => ⟨S8x64, .f32⟩
  | .hbm, ⟨28, _⟩ => ⟨S64, .f32⟩
  | .hbm, ⟨29, _⟩ => ⟨S_, .i32⟩
  | .hbm, ⟨30, _⟩ => ⟨S1, .i32⟩
  | .hbm, ⟨31, _⟩ => ⟨S8x64, .f32⟩
  | .hbm, ⟨32, _⟩ => ⟨S_, .f32⟩
  | .hbm, ⟨33, _⟩ => ⟨S64, .f32⟩
  | .hbm, ⟨34, _⟩ => ⟨S_, .i32⟩
  | .hbm, ⟨35, _⟩ => ⟨S1, .i32⟩
  | .hbm, ⟨36, _⟩ => ⟨S8x64, .f32⟩
  | .hbm, ⟨37, _⟩ => ⟨S512x8192, .f32⟩
  | .hbm, ⟨38, _⟩ => ⟨S512x1, .i32⟩
  | .hbm, ⟨39, _⟩ => ⟨S16x32, .i32⟩
  | .hbm, ⟨40, _⟩ => ⟨S16x32x8192, .f32⟩
  | .local _ .vmem, ⟨0, _⟩ => ⟨S32x8192, .f32⟩
  | .local _ .vmem, ⟨1, _⟩ => ⟨S32x8192, .f32⟩
  | .local _ .vmem, ⟨2, _⟩ => ⟨S32x8192, .f32⟩
  | .local _ .vmem, ⟨3, _⟩ => ⟨S32x8192, .f32⟩
  | .local _ .vmem, ⟨4, _⟩ => ⟨S32x8192, .f32⟩
  | .local _ .vmem, ⟨5, _⟩ => ⟨S32x8192, .f32⟩
  | .local _ .vmem, ⟨6, _⟩ => ⟨S32x1, .i32⟩
  | .local _ .vmem, ⟨7, _⟩ => ⟨S32x1, .i32⟩
  | .local _ .vmem, ⟨8, _⟩ => ⟨S32x8192, .f32⟩
  | .local _ .smem, ⟨0, _⟩ => ⟨S8x64, .f32⟩
  | _, _ => ⟨S16x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_c_0 : Ref sig .tc := ⟨.hbm, 22, rfl⟩
abbrev main_call0_v13 : Ref sig .tc := ⟨.hbm, 23, rfl⟩
abbrev main_call0_v14 : Ref sig .tc := ⟨.hbm, 24, rfl⟩
abbrev main_call0_c_1 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_c_2 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_c_3 : Ref sig .tc := ⟨.hbm, 34, rfl⟩
abbrev main_call0_v22 : Ref sig .tc := ⟨.hbm, 35, rfl⟩
abbrev main_call0_v23 : Ref sig .tc := ⟨.hbm, 36, rfl⟩
abbrev main_call0_v24_0 : Ref sig .tc := ⟨.hbm, 37, rfl⟩
abbrev main_call0_v24_1 : Ref sig .tc := ⟨.hbm, 38, rfl⟩
abbrev main_v0_0 : Ref sig .tc := ⟨.hbm, 39, rfl⟩
abbrev main_v0_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x32x8192 : Shape := ⟨3, ![16, 32, 8192]⟩
abbrev S2x64 : Shape := ⟨2, ![2, 64]⟩
abbrev S64 : Shape := ⟨1, ![64]⟩
abbrev S64x1 : Shape := ⟨2, ![64, 1]⟩
abbrev S1 : Shape := ⟨1, ![1]⟩
abbrev S16x32x8192x1 : Shape := ⟨4, ![16, 32, 8192, 1]⟩
abbrev S16x32x8192x2 : Shape := ⟨4, ![16, 32, 8192, 2]⟩
abbrev S16x32x8192x64 : Shape := ⟨4, ![16, 32, 8192, 64]⟩
abbrev S1x1x1x64 : Shape := ⟨4, ![1, 1, 1, 64]⟩
abbrev S_ : Shape := ⟨0, ![]⟩
abbrev S1x1x1x1 : Shape := ⟨4, ![1, 1, 1, 1]⟩
abbrev S16x32 : Shape := ⟨2, ![16, 32]⟩
abbrev S16x32x1 : Shape := ⟨3, ![16, 32, 1]⟩

abbrev nBuf : Space → Nat
  | .hbm => 46
  | .vmem => 0
  | .smem => 0
  | _ => 0

abbrev bufTy : (tb : Table) → Fin (tcTables nBuf tb) → BufTy
  | .hbm, ⟨0, _⟩ => ⟨S16x32x8192, .f32⟩
  | .hbm, ⟨1, _⟩ => ⟨S16x32x8192, .f32⟩
  | .hbm, ⟨2, _⟩ => ⟨S16x32x8192, .f32⟩
  | .hbm, ⟨3, _⟩ => ⟨S2x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S16x32x8192x1, .f32⟩
  | .hbm, ⟨8, _⟩ => ⟨S16x32x8192x1, .f32⟩
  | .hbm, ⟨9, _⟩ => ⟨S16x32x8192x2, .f32⟩
  | .hbm, ⟨10, _⟩ => ⟨S16x32x8192x64, .f32⟩
  | .hbm, ⟨11, _⟩ => ⟨S1x1x1x64, .f32⟩
  | .hbm, ⟨12, _⟩ => ⟨S16x32x8192x64, .f32⟩
  | .hbm, ⟨13, _⟩ => ⟨S16x32x8192x64, .f32⟩
  | .hbm, ⟨14, _⟩ => ⟨S_, .f32⟩
  | .hbm, ⟨15, _⟩ => ⟨S16x32x8192x64, .f32⟩
  | .hbm, ⟨16, _⟩ => ⟨S16x32x8192x64, .f32⟩
  | .hbm, ⟨17, _⟩ => ⟨S16x32x8192x1, .f32⟩
  | .hbm, ⟨18, _⟩ => ⟨S1x1x1x1, .f32⟩
  | .hbm, ⟨19, _⟩ => ⟨S16x32x8192x1, .f32⟩
  | .hbm, ⟨20, _⟩ => ⟨S16x32x8192x1, .f32⟩
  | .hbm, ⟨21, _⟩ => ⟨S16x32x8192, .f32⟩
  | .hbm, ⟨22, _⟩ => ⟨S16x32x8192, .f32⟩
  | .hbm, ⟨23, _⟩ => ⟨S_, .f32⟩
  | .hbm, ⟨24, _⟩ => ⟨S16x32x8192, .f32⟩
  | .hbm, ⟨25, _⟩ => ⟨S16x32x8192, .f32⟩
  | .hbm, ⟨26, _⟩ => ⟨S16x32x8192, .f32⟩
  | .hbm, ⟨27, _⟩ => ⟨S_, .f32⟩
  | .hbm, ⟨28, _⟩ => ⟨S16x32, .f32⟩
  | .hbm, ⟨29, _⟩ => ⟨S_, .f32⟩
  | .hbm, ⟨30, _⟩ => ⟨S16x32, .f32⟩
  | .hbm, ⟨31, _⟩ => ⟨S16x32, .f32⟩
  | .hbm, ⟨32, _⟩ => ⟨S16x32x1, .f32⟩
  | .hbm, ⟨33, _⟩ => ⟨S16x32x8192, .f32⟩
  | .hbm, ⟨34, _⟩ => ⟨S16x32x8192, .f32⟩
  | .hbm, ⟨35, _⟩ => ⟨S16x32x8192, .f32⟩
  | .hbm, ⟨36, _⟩ => ⟨S_, .f32⟩
  | .hbm, ⟨37, _⟩ => ⟨S16x32, .f32⟩
  | .hbm, ⟨38, _⟩ => ⟨S16x32x1, .f32⟩
  | .hbm, ⟨39, _⟩ => ⟨S16x32x8192, .f32⟩
  | .hbm, ⟨40, _⟩ => ⟨S16x32x8192, .f32⟩
  | .hbm, ⟨41, _⟩ => ⟨S16x32x8192, .i32⟩
  | .hbm, ⟨42, _⟩ => ⟨S_, .f32⟩
  | .hbm, ⟨43, _⟩ => ⟨S_, .i32⟩
  | .hbm, ⟨44, _⟩ => ⟨S16x32, .f32⟩
  | .hbm, ⟨45, _⟩ => ⟨S16x32, .i32⟩
  | _, _ => ⟨S16x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_v0 : Ref sig .tc := ⟨.hbm, 41, rfl⟩
abbrev main_call1_cst : Ref sig .tc := ⟨.hbm, 42, rfl⟩
abbrev main_call1_c : Ref sig .tc := ⟨.hbm, 43, rfl⟩
abbrev main_call1_v1_0 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.Pre.lean ====
/- The precondition as facts about the arguments: the mask and the first bias are zero. -/
module

public import proofs.«01_k».proof.Defs
public import proofs.«01_k».proof.Proof.Gen.Pre_zero_mask_and_bias
public import Idealize.ShloMosaic.PureOps.Ideal.Laws
public import Idealize.ShloMosaic.Lib.ReduceAll
public import Idealize.ShloMosaic.Lib.Claim

@[expose] public section

noncomputable section

namespace Cert.Proof

open Idealize.ShloMosaic Idealize.ShloMosaic.TcCoe Idealize.SL.Sem

/-- A comparison that says "equal to zero" is of a number that is zero. -/
theorem eq_zero_of_word (x : EReal)
    (h : FloatOps.cmpf (F := Ideal) (φ := .f32) .oeq x (FloatOps.ofBits (F := Ideal) .f32 0x00000000#32) = 1#1) : x = 0 := by
  have hz : (FloatOps.ofBits (F := Ideal) .f32 0x00000000#32 : EReal) = 0 := Ideal.ofBits_zero_f32
  have h' : BitVec.ofBool (decide (x = (FloatOps.ofBits (F := Ideal) .f32 0x00000000#32 : EReal))) = 1#1 := h
  rw [hz] at h'
  by_contra hx
  rw [decide_eq_false hx] at h'
  exact absurd h' (by decide)

open Cert.Pre_zero_mask_and_bias in
/-- What the precondition says of the mask and the first bias. -/
theorem zero_of_pre (a0 a1 mask : FVec Ideal S16x32x8192 .f32) (a3 : FVec Ideal S2x64 .f32) (bias : FVec Ideal S64 .f32)
    (a5 : FVec Ideal S64x1 .f32) (a6 : FVec Ideal S1 .f32)
    (h : Cert.Pre_zero_mask_and_bias.fn (F := Ideal) a0 a1 mask a3 bias a5 a6 = fun _ => 1#1) :
    (∀ i, mask i = 0) ∧ ∀ k, bias k = 0 := by
  have : Subsingleton S_.Idx := ⟨fun i j => funext fun a => a.elim0⟩
  obtain ⟨hm, hb⟩ := IntOp.andi_eq_one.1 (congrFun h (fun a => a.elim0))
  exact ⟨fun i => eq_zero_of_word _ (Host.reduce_andi_all _ _ _ _ _ hm i),
    fun k => eq_zero_of_word _ (Host.reduce_andi_all _ _ _ _ _ hb k)⟩

end Cert.Proof
-- ==== Proof.Chunk.lean ====
/- The kernel's scratch after its stores: sixteen column chunks, each the same function of the loads at its columns. -/
module

public import proofs.«01_k».proof.Proof.Gen.KernelIdeal.Frame
public import Idealize.ShloMosaic.Lib.Pipeline.ValueKit.Tiles

@[expose] public section

set_option maxRecDepth 16384

noncomputable section

namespace Cert.Proof

open Idealize.ShloMosaic Idealize.ShloMosaic.TcCoe Idealize.ShloMosaic.Tactic Idealize.SL.Sem
open Cert.KernelIdeal Cert.KernelIdeal.Gen

variable {F : FTy → Type} [FloatOps F]

/-- One hidden unit's share of the score of a block of locations: weights `a`, `b` on the two features, `v` on the
    positive part. -/
def unitTerm (d t : FVec F S32x512 .f32) (a b v : Elt F .f32) : FVec F S32x512 .f32 :=
  mulf
    (extf .f32
      (truncf .bf16
        (maximumf (addf (mulf d (broadcast S32x512 a)) (mulf t (broadcast S32x512 b)))
          (broadcast S32x512 (Scalar.ofBits .f32 0x00000000#32 : F .f32)))
        bitsLt_bf16_f32)
      bitsLt_bf16_f32)
    (broadcast S32x512 v)

/-- Hidden unit number `8 c + j`. -/
def unitNo (c j : Fin 8) : Fin 64 := ⟨8 * c.val + j.val, by omega⟩

/-- The shares of hidden unit `8 c + j`, its weights read from rows 0, 1 and 3 of a weight table. -/
def unitAt (d t : FVec F S32x512 .f32) (w : Fin 8 → Fin 64 → Elt F .f32) (c j : Fin 8) : FVec F S32x512 .f32 :=
  unitTerm d t (w 0 (unitNo c j)) (w 1 (unitNo c j)) (w 3 (unitNo c j))

/-- The shares of eight consecutive hidden units, added pairwise. -/
def groupSum (d t : FVec F S32x512 .f32) (w : Fin 8 → Fin 64 → Elt F .f32) (c : Fin 8) : FVec F S32x512 .f32 :=
  addf
    (addf (addf (unitAt d t w c 0) (unitAt d t w c 1)) (addf (unitAt d t w c 2) (unitAt d t w c 3)))
    (addf (addf (unitAt d t w c 4) (unitAt d t w c 5)) (addf (unitAt d t w c 6) (unitAt d t w c 7)))

/-- The scores of a block of locations without the last bias: the eight groups added in order. -/
def chunkScore (d t : FVec F S32x512 .f32) (w : Fin 8 → Fin 64 → Elt F .f32) : FVec F S32x512 .f32 :=
  addf (addf (addf (addf (addf (addf (addf (groupSum d t w 0) (groupSum d t w 1)) (groupSum d t w 2))
    (groupSum d t w 3)) (groupSum d t w 4)) (groupSum d t w 5)) (groupSum d t w 6)) (groupSum d t w 7)

/-- A word of the weight table lies in it. -/
theorem word_inb (r : Fin 8) (k : Fin 64) : ∀ a, (![r.val, k.val] : Fin 2 → Nat) a + S1x1.size a ≤ S8x64.size a :=
  Fin.forall_fin_two.mpr ⟨by have := r.isLt; show r.val + 1 ≤ 8; omega, by have := k.isLt; show k.val + 1 ≤ 64; omega⟩

/-- Column chunk `k` of a block of rows lies in it. -/
theorem chunk_inb (k : Fin 16) : ∀ a, (![0, 512 * k.val] : Fin 2 → Nat) a + S32x512.size a ≤ S32x8192.size a :=
  Fin.forall_fin_two.mpr ⟨by show 0 + 32 ≤ 32; omega, by have := k.isLt; show 512 * k.val + 512 ≤ 8192; omega⟩

/-- The weight table as the body reads it, word by word. -/
def wordsOf (arg3 : Memref sig .tc .smem S8x64 .f32) (harg3 : arg3.IsWhole) (x2 : Vec F S8x64 .f32)
    (r : Fin 8) (k : Fin 64) : Elt F .f32 :=
  View.readAt (Elt F) arg3.view (Rect.unit (s := S8x64) ![r.val, k.val] S1x1.size (word_inb r k)).toLoadRect (harg3.unread x2)
    (Shape.Idx.first (show 0 < S1x1.numel by decide))

/-- Column chunk `k` of an input block as the body loads it, rounded to bf16. -/
def loadOf (arg : Memref sig .tc .vmem S32x8192 .f32) (harg : arg.IsWhole) (x : Vec F S32x8192 .f32) (k : Fin 16) :
    FVec F S32x512 .f32 :=
  extf .f32
    (truncf .bf16
      (shapeCast S32x512
        (View.readAt (Elt F) arg.view
          (Rect.unit (s := S32x8192) ![0, 512 * k.val] S32x512.size (chunk_inb k)).toLoadRect (harg.unread x))
        shapeCasts_S32x512_S32x512)
      bitsLt_bf16_f32)
    bitsLt_bf16_f32

/-- The stores into the scratch, last first: the sixteen column chunks, each holding its scores. -/
theorem scratch_pieces (c : Dev nD) (arg1 : Memref sig .tc .vmem S32x8192 .f32) (harg1 : arg1.IsWhole)
    (arg2 : Memref sig .tc .vmem S32x8192 .f32) (harg2 : arg2.IsWhole)
    (arg3 : Memref sig .tc .smem S8x64 .f32) (harg3 : arg3.IsWhole)
    (x0 x1 : Vec F S32x8192 .f32) (x2 : Vec F S8x64 .f32) :
    kernelRun0_A.sl.HS0_16 c arg1 harg1 arg2 harg2 arg3 harg3 x0 x1 x2
      = List.ofFn fun k : Fin 16 =>
          (⟨Rect.unit ![0, 512 * (Fin.rev k).val] S32x512.size (chunk_inb (Fin.rev k)),
            shapeCast S32x512 (chunkScore (loadOf arg1 harg1 x0 (Fin.rev k)) (loadOf arg2 harg2 x1 (Fin.rev k)) (wordsOf arg3 harg3 x2))
              shapeCasts_S32x512_S32x512⟩ :
            View.Piece (Elt F) S32x8192 .f32) := by
  sl_kernel_rfl

end Cert.Proof

end
-- ==== Proof.Spec.lean ====
/- The mathematics the kernel and the reference share: the score of a location, the softmax of a row, and the first
   index at which a row is greatest. -/
module

public import Idealize.ShloMosaic.Lib.Pointwise
public import Idealize.ShloMosaic.PureOps.Ideal.Laws

@[expose] public section

set_option maxRecDepth 16384

noncomputable section

namespace Cert.Proof

open Idealize.ShloMosaic

/-- The two-layer score of a location with features `d` and `t`: hidden weights `a` and `b`, output weights `v`. -/
def score (a b v : Fin 64 → EReal) (d t : EReal) : EReal :=
  ∑ k : Fin 64, max (d * a k + t * b k) 0 * v k

/-- A score plus the last bias, clipped by `10 tanh`. -/
def logit (b2 s : EReal) : EReal :=
  FloatOps.mulf (F := Ideal) (φ := .f32) (FloatOps.ofBits .f32 0x41200000#32)
    (FloatOps.tanh (F := Ideal) (φ := .f32) (s + b2))

/-- The greatest value of a row. -/
def rowMax (x : Fin 8192 → EReal) : EReal := Finset.univ.fold max ⊥ x

/-- The exponentials of a row less its greatest value. -/
def rowExp (x : Fin 8192 → EReal) (l : Fin 8192) : EReal :=
  FloatOps.exp (F := Ideal) (φ := .f32) (x l - rowMax x)

/-- The softmax of a row. -/
def rowSoftmax (x : Fin 8192 → EReal) (l : Fin 8192) : EReal :=
  FloatOps.divf (F := Ideal) (φ := .f32) (rowExp x l) (∑ k : Fin 8192, rowExp x k)

/-- The first index at which a row is greatest, found as the least of the indices that reach the maximum. -/
def firstMax (p : Fin 8192 → EReal) : BitVec 32 :=
  Finset.univ.fold IntOp.minsi 2147483647#32
    fun l : Fin 8192 => if p l = rowMax p then BitVec.ofNat 32 l.val else 8192#32

/-- The word of minus infinity reads as the least extended real. -/
theorem neg_inf_word : Ideal.ofBits .f32 0xFF800000#32 = ⊥ := by
  simp [Ideal.ofBits, Ideal.ieee]

end Cert.Proof

end
-- ==== Proof.Point.lean ====
/- What one grid point leaves in its two output blocks, read at the extended reals. -/
module

public import proofs.«01_k».proof.Proof.Chunk
public import proofs.«01_k».proof.Proof.Spec

@[expose] public section

set_option maxRecDepth 16384

noncomputable section

namespace Cert.Proof

open Idealize.ShloMosaic Idealize.ShloMosaic.TcCoe Idealize.ShloMosaic.Tactic Idealize.SL.Sem
open Cert.KernelIdeal Cert.KernelIdeal.Gen

/-- A word of the table as read is the table's entry. -/
theorem wordsOf_apply (arg3 : Memref sig .tc .smem S8x64 .f32) (harg3 : arg3.IsWhole) (x2 : Vec Ideal S8x64 .f32)
    (r : Fin 8) (k : Fin 64) : wordsOf arg3 harg3 x2 r k = x2 (ix2 r k) := by
  unfold wordsOf
  rw [View.readAt_eq_ld, Memref.IsWhole.read_unread]
  exact View.ld_unit_apply_of x2 _ _ _ _ (ix2 r k) (Fin.forall_fin_two.mpr ⟨rfl, rfl⟩)

/-- A chunk of an input block as loaded, entry by entry. -/
theorem loadOf_apply (arg : Memref sig .tc .vmem S32x8192 .f32) (harg : arg.IsWhole) (x : Vec Ideal S32x8192 .f32)
    (k : Fin 16) (r : Fin 32) (l : Fin 512) :
    loadOf arg harg x k (ix2 r l) = x (ix2 r ⟨512 * k.val + l.val, by omega⟩) := by
  unfold loadOf
  rw [View.readAt_eq_ld, Memref.IsWhole.read_unread]
  pointwise

/-- One hidden unit's share, entry by entry. -/
theorem unitAt_apply (d t : FVec Ideal S32x512 .f32) (w : Fin 8 → Fin 64 → EReal) (c j : Fin 8) (i : S32x512.Idx) :
    unitAt d t w c j i = max (d i * w 0 (unitNo c j) + t i * w 1 (unitNo c j)) 0 * w 3 (unitNo c j) := by
  show max _ (Ideal.ofBits .f32 0x00000000#32) * _ = _
  rw [Ideal.ofBits_zero_f32]
  rfl

/-- A group's sum, entry by entry. -/
theorem groupSum_apply (d t : FVec Ideal S32x512 .f32) (w : Fin 8 → Fin 64 → EReal) (c : Fin 8) (i : S32x512.Idx) :
    groupSum d t w c i = ∑ j : Fin 8, unitAt d t w c j i := by
  rw [Fin.sum_univ_eight]
  simp only [groupSum, addf, Ideal.addf_def]
  ac_rfl

/-- A chunk's scores, entry by entry: the sum over all hidden units. -/
theorem chunkScore_apply (d t : FVec Ideal S32x512 .f32) (w : Fin 8 → Fin 64 → EReal) (i : S32x512.Idx) :
    chunkScore d t w i = score (w 0) (w 1) (w 3) (d i) (t i) := by
  have h : chunkScore d t w i = ∑ c : Fin 8, groupSum d t w c i := by
    rw [Fin.sum_univ_eight]; rfl
  rw [h, score]
  simp only [groupSum_apply, unitAt_apply]
  rw [← Fintype.sum_prod_type']
  refine Fintype.sum_equiv (finProdFinEquiv (m := 8) (n := 8)) _ _ fun p => ?_
  have e : unitNo p.1 p.2 = (finProdFinEquiv (m := 8) (n := 8)) p := Fin.ext (by
    simp [unitNo, finProdFinEquiv]; omega)
  rw [e]

/-- The scores of a block of rows: every location against the weights in rows 0, 1 and 3 of the table. -/
def blockScore (x0 x1 : Vec Ideal S32x8192 .f32) (x2 : Vec Ideal S8x64 .f32) (r : Fin 32) (l : Fin 8192) : EReal :=
  score (fun k => x2 (ix2 0 k)) (fun k => x2 (ix2 1 k)) (fun k => x2 (ix2 3 k)) (x0 (ix2 r l)) (x1 (ix2 r l))

/-- The scratch read back is the scores of the block. -/
theorem scratch_apply (c : Dev nD) (arg1 : Memref sig .tc .vmem S32x8192 .f32) (harg1 : arg1.IsWhole)
    (arg2 : Memref sig .tc .vmem S32x8192 .f32) (harg2 : arg2.IsWhole)
    (arg3 : Memref sig .tc .smem S8x64 .f32) (harg3 : arg3.IsWhole)
    (x0 x1 : Vec Ideal S32x8192 .f32) (x2 : Vec Ideal S8x64 .f32) (r : Fin 32) (l : Fin 8192) :
    View.canon (kernelRun0_A.sl.HS0_16 c arg1 harg1 arg2 harg2 arg3 harg3 x0 x1 x2) (ix2 r l)
      = blockScore x0 x1 x2 r l := by
  rw [scratch_pieces]
  refine View.canon_ofFn_unit_eq_of_forall (S := S32x8192) (fun k : Fin 16 => ![0, 512 * (Fin.rev k).val])
    S32x512.size (fun k => chunk_inb (Fin.rev k)) _ (ix2 r l) _ ?_ ?_
  · refine ⟨Fin.rev ⟨l.val / 512, by omega⟩, ?_⟩
    rw [Fin.rev_rev]
    refine Fin.forall_fin_two.mpr ⟨?_, ?_⟩
    · show 0 ≤ r.val ∧ r.val < 0 + 32
      omega
    · show 512 * (l.val / 512) ≤ l.val ∧ l.val < 512 * (l.val / 512) + 512
      omega
  · intro k i hi
    obtain ⟨h0, h1⟩ := Fin.forall_fin_two.mp hi
    have h0 : r.val = 0 + (i 0).val := h0
    have h1 : l.val = 512 * (Fin.rev k).val + (i 1).val := h1
    obtain ⟨i0, i1, rfl⟩ : ∃ (i0 : Fin 32) (i1 : Fin 512), i = (ix2 i0 i1 : S32x512.Idx) :=
      ⟨i 0, i 1, funext (Fin.forall_fin_two.mpr ⟨rfl, rfl⟩)⟩
    obtain rfl : r = i0 := Fin.ext (h0.trans (Nat.zero_add _))
    have hb : 512 * (Fin.rev k).val + i1.val < 8192 := by have := (Fin.rev k).isLt; omega
    obtain rfl : l = ⟨512 * (Fin.rev k).val + i1.val, hb⟩ := Fin.ext h1
    refine Eq.trans (b := chunkScore (loadOf arg1 harg1 x0 (Fin.rev k)) (loadOf arg2 harg2 x1 (Fin.rev k))
      (wordsOf arg3 harg3 x2) (ix2 r i1)) (by pointwise) ?_
    rw [chunkScore_apply, loadOf_apply, loadOf_apply]
    simp only [blockScore, funext (wordsOf_apply arg3 harg3 x2 _)]

/-- The tail's softmax, entry by entry, of any scores and bias. -/
theorem tail_probs_apply (s : FVec Ideal S32x8192 .f32) (b : EReal) (r : Fin 32) (l : Fin 8192) :
    k0_pay1249 (F := Ideal) s b (ix2 r l) = rowSoftmax (fun l => logit b (s (ix2 r l))) l := by
  unfold k0_pay1249
  dsimp only
  pointwise
  simp only [rowSoftmax, rowExp, rowMax, logit, neg_inf_word]
  rfl

/-- The tail's selection, row by row: the first index at which the tail's softmax is greatest. -/
theorem tail_sel_apply (s : FVec Ideal S32x8192 .f32) (b : EReal) (r : Fin 32) :
    k0_pay1250 (F := Ideal) s b (ix2 r 0) = firstMax (fun l => k0_pay1249 (F := Ideal) s b (ix2 r l)) := by
  unfold k0_pay1250
  dsimp only
  generalize k0_pay1249 (F := Ideal) s b = p
  pointwise
  simp only [firstMax, rowMax, neg_inf_word]
  congr!

/-- The logits of a row of a block. -/
def rowLogits (x0 x1 : Vec Ideal S32x8192 .f32) (x2 : Vec Ideal S8x64 .f32) (r : Fin 32) (l : Fin 8192) : EReal :=
  logit (x2 (ix2 4 0)) (blockScore x0 x1 x2 r l)

section Outputs

variable (c : Dev nD) (i : grid0.Coords) (arg1 : Memref sig .tc .vmem S32x8192 .f32) (harg1 : arg1.IsWhole)
  (arg2 : Memref sig .tc .vmem S32x8192 .f32) (harg2 : arg2.IsWhole)
  (arg3 : Memref sig .tc .smem S8x64 .f32) (harg3 : arg3.IsWhole)
  (arg4 : Memref sig .tc .vmem S32x8192 .f32) (harg4 : arg4.IsWhole)
  (arg5 : Memref sig .tc .vmem S32x1 .i32) (harg5 : arg5.IsWhole)
  (arg6 : Memref sig .tc .vmem S32x8192 .f32) (harg6 : arg6.IsWhole)
  (x0 x1 : Vec Ideal S32x8192 .f32) (x2 : Vec Ideal S8x64 .f32)

/-- The whole scratch as the tail loads it. -/
theorem scratch_load : kernelRun0_A.sl.v15520 c arg1 harg1 arg2 harg2 arg3 harg3 arg6 x0 x1 x2
    = View.canon (kernelRun0_A.sl.HS0_16 c arg1 harg1 arg2 harg2 arg3 harg3 x0 x1 x2) := by
  unfold kernelRun0_A.sl.v15520
  rw [View.readCov_eq_canon']
  exact funext fun j => congrArg _ (funext fun a => Fin.ext
    ((Rect.idx_unit_val _ _ _ j a).trans (by fin_cases a <;> exact Nat.zero_add _)))

/-- The probabilities' block as the tail's softmax of the scratch. -/
theorem out3_eq :
    out0_A_3 c i arg1 harg1 arg2 harg2 arg3 harg3 arg4 harg4 arg5 harg5 arg6 harg6 x0 x1 x2
      = k0_pay1249 (F := Ideal)
          (View.canon (kernelRun0_A.sl.HS0_16 c arg1 harg1 arg2 harg2 arg3 harg3 x0 x1 x2)) (wordsOf arg3 harg3 x2 4 0) := by
  unfold out0_A_3
  rw [View.read_writes_junk_eq_canon]
  unfold kernelRun0_A
  dsimp only
  rw [View.canon_cons_unit_zero (by funext a; fin_cases a <;> rfl)]
  exact congrArg₂ k0_pay1249 (scratch_load c arg1 harg1 arg2 harg2 arg3 harg3 arg6 x0 x1 x2) rfl

/-- The selections' block as the tail's selection on the scratch. -/
theorem out4_eq :
    out0_A_4 c i arg1 harg1 arg2 harg2 arg3 harg3 arg4 harg4 arg5 harg5 arg6 harg6 x0 x1 x2
      = k0_pay1250 (F := Ideal)
          (View.canon (kernelRun0_A.sl.HS0_16 c arg1 harg1 arg2 harg2 arg3 harg3 x0 x1 x2)) (wordsOf arg3 harg3 x2 4 0) := by
  unfold out0_A_4
  rw [View.read_writes_junk_eq_canon]
  unfold kernelRun0_A
  dsimp only
  rw [View.canon_cons_unit_zero (by funext a; fin_cases a <;> rfl)]
  exact congrArg₂ k0_pay1250 (scratch_load c arg1 harg1 arg2 harg2 arg3 harg3 arg6 x0 x1 x2) rfl

/-- The softmax of the scratch is the softmax of the block's logits. -/
theorem probs_apply (r : Fin 32) (l : Fin 8192) :
    k0_pay1249 (F := Ideal)
        (View.canon (kernelRun0_A.sl.HS0_16 c arg1 harg1 arg2 harg2 arg3 harg3 x0 x1 x2)) (wordsOf arg3 harg3 x2 4 0)
        (ix2 r l)
      = rowSoftmax (rowLogits x0 x1 x2 r) l := by
  rw [tail_probs_apply]
  refine congrArg (rowSoftmax · l) (funext fun l => ?_)
  rw [scratch_apply, wordsOf_apply]
  rfl

/-- The probabilities' block, entry by entry. -/
theorem out3_apply (r : Fin 32) (l : Fin 8192) :
    out0_A_3 c i arg1 harg1 arg2 harg2 arg3 harg3 arg4 harg4 arg5 harg5 arg6 harg6 x0 x1 x2 (ix2 r l)
      = rowSoftmax (rowLogits x0 x1 x2 r) l := by
  rw [out3_eq, probs_apply]

/-- The selections' block, row by row. -/
theorem out4_apply (r : Fin 32) :
    out0_A_4 c i arg1 harg1 arg2 harg2 arg3 harg3 arg4 harg4 arg5 harg5 arg6 harg6 x0 x1 x2 (ix2 r 0)
      = firstMax (rowSoftmax (rowLogits x0 x1 x2 r)) := by
  rw [out4_eq, tail_sel_apply]
  exact congrArg firstMax (funext (probs_apply c arg1 harg1 arg2 harg2 arg3 harg3 x0 x1 x2 r))

end Outputs

end Cert.Proof

end
-- ==== Proof.Arrays.lean ====
/- What the kernel's two output arrays hold after the grid, row by row. -/
module

public import proofs.«01_k».proof.Proof.Point
public import proofs.«01_k».proof.Proof.Gen.KernelIdeal.Points
public import Idealize.ShloMosaic.Lib.Pipeline.ValueKit
public import Idealize.ShloMosaic.Lib.Claim

@[expose] public section

set_option maxRecDepth 16384

noncomputable section

namespace Cert.Proof

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The logits of a row of the two feature arrays against a table of weights. -/
def arrLogits (d t : FVec Ideal S512x8192 .f32) (w : FVec Ideal S8x64 .f32) (r : Fin 512) (l : Fin 8192) : EReal :=
  logit (w (ix2 4 0)) (score (fun k => w (ix2 0 k)) (fun k => w (ix2 1 k)) (fun k => w (ix2 3 k))
    (d (ix2 r l)) (t (ix2 r l)))

/-- Row `r` of grid point `t`'s block is row `32 t + r` of the array. -/
def rowOf (t : Fin cfg0.N) (r : Fin 32) : Fin 512 := ⟨32 * t.val + r.val, by have : t.val < 16 := t.isLt; omega⟩

/-- The blocks of the row windows follow the grid; the table's block is the table. -/
theorem row_index : ∀ t : Fin cfg0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = t.val ∧ win0_3.index t 1 = 0)
      ∧ (win0_4.index t 0 = t.val ∧ win0_4.index t 1 = 0) := by
  decide +kernel

/-- A block's logits are its rows' logits. -/
theorem block_logits (t : Fin cfg0.N) (r : Fin 32) :
    rowLogits (iblk m c 0 t) (iblk m c 1 t) (iblk m c 2 t) r
      = arrLogits (V m c main_call0_v0) (V m c main_call0_v1) (V m c main_call0_v23) (rowOf t r) := by
  have h0 : ∀ l : Fin 8192, (iblk m c 0 t : Vec Ideal S32x8192 .f32) (ix2 r l) = V m c main_call0_v0 (ix2 (rowOf t r) l) := fun l => by
    obtain ⟨a, b⟩ := (row_index t).1
    blk_ext [iblk, rowOf, a, b]
  have h1 : ∀ l : Fin 8192, (iblk m c 1 t : Vec Ideal S32x8192 .f32) (ix2 r l) = V m c main_call0_v1 (ix2 (rowOf t r) l) := fun l => by
    obtain ⟨a, b⟩ := (row_index t).2.1
    blk_ext [iblk, rowOf, a, b]
  have h2 : ∀ (i : Fin 8) (k : Fin 64), (iblk m c 2 t : Vec Ideal S8x64 .f32) (ix2 i k) = V m c main_call0_v23 (ix2 i k) := fun i k => by
    obtain ⟨a, b⟩ := (row_index t).2.2.1
    blk_ext [iblk, a, b]
  funext l
  simp only [rowLogits, blockScore, arrLogits, h0, h1, h2]

/-- What a grid point leaves in its block of probabilities. -/
theorem outs_probs (t : Fin cfg0.N) (r : Fin 32) (l : Fin 8192) : (outsAt0 m c t).1 (ix2 r l)
    = rowSoftmax (arrLogits (V m c main_call0_v0) (V m c main_call0_v1) (V m c main_call0_v23) (rowOf t r)) l := by
  unfold outsAt0
  dsimp only
  rw [out3_apply, block_logits]

/-- What a grid point leaves in its block of selections. -/
theorem outs_sel (t : Fin cfg0.N) (r : Fin 32) : (outsAt0 m c t).2 (ix2 r 0)
    = firstMax (rowSoftmax (arrLogits (V m c main_call0_v0) (V m c main_call0_v1) (V m c main_call0_v23) (rowOf t r))) := by
  unfold outsAt0
  dsimp only
  rw [out4_apply, block_logits]

/-- The row of the array at which a block's row lies. -/
theorem emb_row (t : Fin cfg0.N) (r : Fin 32) (l : Fin 8192) :
    (win0_3.blk t).view.emb (ix2 r l : S32x8192.Idx) = (ix2 (rowOf t r) l : S512x8192.Idx) := by
  obtain ⟨a, b⟩ := (row_index t).2.2.2.1
  refine funext (Fin.forall_fin_two.mpr ⟨Fin.ext ?_, Fin.ext ?_⟩)
  · refine (Pipeline.Window.rect_emb_val win0_3 t (ix2 r l : S32x8192.Idx) 0).trans ?_
    rw [a]
    show t.val * 32 + r.val = 32 * t.val + r.val
    omega
  · refine (Pipeline.Window.rect_emb_val win0_3 t (ix2 r l : S32x8192.Idx) 1).trans ?_
    rw [b]
    show 0 * 8192 + l.val = l.val
    omega

/-- The same for the one-column array of selections. -/
theorem emb_sel (t : Fin cfg0.N) (r : Fin 32) :
    (win0_4.blk t).view.emb (ix2 r 0 : S32x1.Idx) = (ix2 (rowOf t r) 0 : S512x1.Idx) := by
  obtain ⟨a, b⟩ := (row_index t).2.2.2.2
  refine funext (Fin.forall_fin_two.mpr ⟨Fin.ext ?_, Fin.ext ?_⟩)
  · refine (Pipeline.Window.rect_emb_val win0_4 t (ix2 r 0 : S32x1.Idx) 0).trans ?_
    rw [a]
    show t.val * 32 + r.val = 32 * t.val + r.val
    omega
  · refine (Pipeline.Window.rect_emb_val win0_4 t (ix2 r 0 : S32x1.Idx) 1).trans ?_
    rw [b]
    rfl

/-- The probabilities' array after the grid. -/
theorem probs_array : (dats m 0 c).arrAt 3 cfg0.N
    = fun i => rowSoftmax (arrLogits (V m c main_call0_v0) (V m c main_call0_v1) (V m c main_call0_v23) (i 0)) (i 1) := by
  refine (dats m 0 c).arrAt_eq_of_covers 3 _ (by decide +kernel) fun t hf y => ?_
  blk_simp
  rw [after0_3]
  obtain ⟨r, l, rfl⟩ : ∃ (r : Fin 32) (l : Fin 8192), y = (ix2 r l : S32x8192.Idx) :=
    ⟨y 0, y 1, funext (Fin.forall_fin_two.mpr ⟨rfl, rfl⟩)⟩
  exact (outs_probs m c t r l).trans (by rw [emb_row]; rfl)

/-- The selections' array after the grid. -/
theorem sel_array : (dats m 0 c).arrAt 4 cfg0.N
    = fun i => firstMax (rowSoftmax (arrLogits (V m c main_call0_v0) (V m c main_call0_v1) (V m c main_call0_v23) (i 0))) := by
  refine (dats m 0 c).arrAt_eq_of_covers 4 _ (by decide +kernel) fun t hf y => ?_
  blk_simp
  rw [after0_4]
  obtain ⟨r, rfl⟩ : ∃ (r : Fin 32), y = (ix2 r 0 : S32x1.Idx) :=
    ⟨y 0, funext (Fin.forall_fin_two.mpr ⟨rfl, @Subsingleton.elim (Fin 1) _ _ _⟩)⟩
  exact (outs_sel m c t r).trans (by rw [emb_sel]; rfl)

end Cert.Proof
-- ==== Proof.Weights.lean ====
/- The arrays the kernel's grid reads: the two features as rows, and the table of weights. -/
module

public import proofs.«01_k».proof.Proof.Gen.KernelIdeal.Frame
public import Idealize.ShloMosaic.Lib.Pointwise
public import Idealize.ShloMosaic.Lib.Routing.OpsSet
public import Idealize.ShloMosaic.Lib.Claim

@[expose] public section

set_option maxRecDepth 16384

noncomputable section

namespace Cert.Proof

open Idealize.ShloMosaic Idealize.ShloMosaic.TcCoe Idealize.ShloMosaic.Tactic Idealize.SL.Sem
open Cert.KernelIdeal Cert.KernelIdeal.Facts₀
open Cert.KernelIdeal.Gen (V)

/-- A table of weights with row `n` replaced. -/
def setRow (x : FVec Ideal S8x64 .f32) (n : Fin 8) (u : FVec Ideal S64 .f32) : FVec Ideal S8x64 .f32 :=
  Host.scatter scatter_S8x64_S1_S64_0_0_0_0 (fun _ b => b) x
    (broadcastInDim S1 ![] bcast_S_S1 (constantI S_ 32 (BitVec.ofNat 32 n.val))) u

/-- Where the words of a row replacement land. -/
theorem row_lands : ∀ (n : Fin 8) (k : Fin 64),
    scatter_S8x64_S1_S64_0_0_0_0.resultIdx? (ix1 k : S64.Idx)
        (broadcastInDim S1 ![] bcast_S_S1 (constantI S_ 32 (BitVec.ofNat 32 n.val)))
      = some (ix2 n k : S8x64.Idx) := by
  decide +kernel

/-- The table with row `n` replaced, entry by entry. -/
theorem setRow_apply (x : FVec Ideal S8x64 .f32) (n : Fin 8) (u : FVec Ideal S64 .f32) (r : Fin 8) (k : Fin 64) :
    setRow x n u (ix2 r k) = if r = n then u (ix1 k) else x (ix2 r k) := by
  have inv : ∀ i : S64.Idx, scatter_S8x64_S1_S64_0_0_0_0.resultIdx? i
      (broadcastInDim S1 ![] bcast_S_S1 (constantI S_ 32 (BitVec.ofNat 32 n.val))) = some (ix2 r k : S8x64.Idx) →
      n = r ∧ i = ix1 k := fun i h => by
    obtain ⟨i0, rfl⟩ : ∃ i0 : Fin 64, i = (ix1 i0 : S64.Idx) := ⟨i 0, funext fun a => by fin_cases a; rfl⟩
    have h := Option.some.inj ((row_lands n i0).symm.trans h)
    exact ⟨congrFun h 0, congrArg ix1 (congrFun h 1)⟩
  unfold setRow
  by_cases hr : r = n
  · subst hr
    rw [if_pos rfl]
    exact Routing.scatter_set_hit _ _ _ _ _ _ (fun i h => congrArg u (inv i h).2) (ix1 k) (row_lands r k)
  · rw [if_neg hr]
    exact Routing.scatter_set_miss _ _ _ _ _ fun i h => hr (inv i h).1.symm

/-- The table of weights from the arguments: rows 0 and 1 the hidden weights, row 3 the output weights, row 4 the last
    bias. -/
def table (w1 : FVec Ideal S2x64 .f32) (b1 : FVec Ideal S64 .f32) (w2 : FVec Ideal S64x1 .f32) (b2 : FVec Ideal S1 .f32) :
    FVec Ideal S8x64 .f32 :=
  setRow (setRow (setRow (setRow (setRow
    (broadcastInDim S8x64 ![] bcast_S_S8x64 (constant S_ .f32 0x00000000#32))
    0 (shapeCast S64 (extractStridedSlice S1x64 ![0, 0] (extf .f32 (truncf .bf16 w1 bitsLt_bf16_f32) bitsLt_bf16_f32)
      slices_S2x64_S1x64_0_0) shapeCasts_S1x64_S64))
    1 (shapeCast S64 (extractStridedSlice S1x64 ![1, 0] (extf .f32 (truncf .bf16 w1 bitsLt_bf16_f32) bitsLt_bf16_f32)
      slices_S2x64_S1x64_1_0) shapeCasts_S1x64_S64))
    2 b1)
    3 (shapeCast S64 (extf .f32 (truncf .bf16 w2 bitsLt_bf16_f32) bitsLt_bf16_f32) shapeCasts_S64x1_S64))
    4 (broadcastInDim S64 ![] bcast_S_S64 (shapeCast S_ b2 shapeCasts_S1_S_))

/-- Row 0 of the table. -/
theorem table_row0 (w1 b1 w2 b2) (k : Fin 64) : table w1 b1 w2 b2 (ix2 0 k) = w1 (ix2 0 k) := by
  unfold table
  rw [setRow_apply _ 4, if_neg (by decide), setRow_apply _ 3, if_neg (by decide), setRow_apply _ 2, if_neg (by decide),
    setRow_apply _ 1, if_neg (by decide), setRow_apply _ 0, if_pos rfl]
  pointwise

/-- Row 1 of the table. -/
theorem table_row1 (w1 b1 w2 b2) (k : Fin 64) : table w1 b1 w2 b2 (ix2 1 k) = w1 (ix2 1 k) := by
  unfold table
  rw [setRow_apply _ 4, if_neg (by decide), setRow_apply _ 3, if_neg (by decide), setRow_apply _ 2, if_neg (by decide),
    setRow_apply _ 1, if_pos rfl]
  pointwise

/-- Row 3 of the table. -/
theorem table_row3 (w1 b1 w2 b2) (k : Fin 64) : table w1 b1 w2 b2 (ix2 3 k) = w2 (ix2 k 0) := by
  unfold table
  rw [setRow_apply _ 4, if_neg (by decide), setRow_apply _ 3, if_pos rfl]
  pointwise

/-- The last bias in the table. -/
theorem table_row4 (w1 b1 w2 b2) (k : Fin 64) : table w1 b1 w2 b2 (ix2 4 k) = b2 (ix1 0) := by
  unfold table
  rw [setRow_apply _ 4, if_pos rfl]
  pointwise

variable (m : (ℓ : Loc nD τ sig) → Buf (Elt Ideal) ℓ) (c : Dev nD)

/-- The first feature as the region finds it: its rows one after another. -/
theorem dist_entry : V m c main_call0_v0
    = shapeCast S512x8192 (m ((c.tc : Thread nD τ).loc main_arg0)) shapeCasts_S16x32x8192_S512x8192 := by
  entry_read
  rfl

/-- The second feature as the region finds it. -/
theorem theta_entry : V m c main_call0_v1
    = shapeCast S512x8192 (m ((c.tc : Thread nD τ).loc main_arg1)) shapeCasts_S16x32x8192_S512x8192 := by
  entry_read
  rfl

/-- The table of weights as the region finds it. -/
theorem table_entry : V m c main_call0_v23
    = table (m ((c.tc : Thread nD τ).loc main_arg3)) (m ((c.tc : Thread nD τ).loc main_arg4))
        (m ((c.tc : Thread nD τ).loc main_arg5)) (m ((c.tc : Thread nD τ).loc main_arg6)) := by
  entry_read
  rfl

end Cert.Proof

end
-- ==== Proof.KernelRun.lean ====
/- The run of the kernel's program: its two results as the softmax rows and their first maxima. -/
module

public import proofs.«01_k».proof.Proof.Arrays
public import proofs.«01_k».proof.Proof.Weights
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Proof

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- Row `32 b + p` of the flattened arrays is row `p` of page `b`. -/
def flatRow (b : Fin 16) (p : Fin 32) : Fin 512 := ⟨32 * b.val + p.val, by omega⟩

/-- The logits of row `p` of page `b`, in terms of the arguments. -/
def argLogits (b : Fin 16) (p : Fin 32) (l : Fin 8192) : EReal :=
  logit ((m (c.tc.loc main_arg6) : FVec Ideal S1 .f32) (ix1 0))
    (score (fun k => (m (c.tc.loc main_arg3) : FVec Ideal S2x64 .f32) (ix2 0 k))
      (fun k => (m (c.tc.loc main_arg3) : FVec Ideal S2x64 .f32) (ix2 1 k))
      (fun k => (m (c.tc.loc main_arg5) : FVec Ideal S64x1 .f32) (ix2 k 0))
      ((m (c.tc.loc main_arg0) : FVec Ideal S16x32x8192 .f32) (ix3 b p l))
      ((m (c.tc.loc main_arg1) : FVec Ideal S16x32x8192 .f32) (ix3 b p l)))

/-- A page array flattened to rows, read at a row. -/
theorem flat_apply (x : FVec Ideal S16x32x8192 .f32) (b : Fin 16) (p : Fin 32) (l : Fin 8192) :
    shapeCast S512x8192 x shapeCasts_S16x32x8192_S512x8192 (ix2 (flatRow b p) l) = x (ix3 b p l) := by
  pointwise
  congr 2
  · exact Fin.ext (show (32 * b.val + p.val) / 32 = b.val by omega)
  · exact Fin.ext (show (32 * b.val + p.val) % 32 = p.val by omega)

/-- A row array unflattened to pages, read at a page's row. -/
theorem unflat_apply (x : FVec Ideal S512x8192 .f32) (b : Fin 16) (p : Fin 32) (l : Fin 8192) :
    shapeCast S16x32x8192 x shapeCasts_S512x8192_S16x32x8192 (ix3 b p l) = x (ix2 (flatRow b p) l) := by
  pointwise
  exact congrArg (fun r => x (ix2 r l)) (Fin.ext (show b.val * 32 + p.val = 32 * b.val + p.val by omega))

/-- The one-column array of selections unflattened to pages. -/
theorem unflat_sel_apply (x : Vec Ideal S512x1 .i32) (b : Fin 16) (p : Fin 32) :
    shapeCast S16x32 x shapeCasts_S512x1_S16x32 (ix2 b p) = x (ix2 (flatRow b p) 0) := by
  pointwise
  exact congrArg (fun r => x (ix2 r 0)) (Fin.ext (show b.val * 32 + p.val = 32 * b.val + p.val by omega))

/-- The logits that the region's arrays give a row are those of the arguments. -/
theorem arrLogits_entry (b : Fin 16) (p : Fin 32) :
    arrLogits (V m c main_call0_v0) (V m c main_call0_v1) (V m c main_call0_v23) (flatRow b p) = argLogits m c b p := by
  funext l
  unfold arrLogits argLogits
  rw [dist_entry, theta_entry, table_entry, flat_apply, flat_apply, table_row4]
  simp only [table_row0, table_row1, table_row3]

/-- The probabilities' result after the host operations that follow the region. -/
theorem probs_tail : Pipeline.afterTail₀ cfgs (dats m) 0 (V0 m) [hostOps1] c main_v0_1
    = shapeCast S16x32x8192 ((dats m 0 c).arrAt 3 cfg0.N) shapeCasts_S512x8192_S16x32x8192 := by
  unfold Pipeline.afterTail₀
  simp only [hostOps1, List.flatten_cons, List.flatten_nil, List.append_nil]
  after_results
  exact congrArg (fun x => shapeCast S16x32x8192 x shapeCasts_S512x8192_S16x32x8192)
    (Pipeline.withArrays_arr spec0 (by decide) c (V0 m c) (fun w => (dats m 0 c).arrAt w cfg0.N) 3)

/-- The selections' result after the host operations that follow the region. -/
theorem sel_tail : Pipeline.afterTail₀ cfgs (dats m) 0 (V0 m) [hostOps1] c main_v0_0
    = shapeCast S16x32 ((dats m 0 c).arrAt 4 cfg0.N) shapeCasts_S512x1_S16x32 := by
  unfold Pipeline.afterTail₀
  simp only [hostOps1, List.flatten_cons, List.flatten_nil, List.append_nil]
  after_results
  exact congrArg (fun x => shapeCast S16x32 x shapeCasts_S512x1_S16x32)
    (Pipeline.withArrays_arr spec0 (by decide) c (V0 m c) (fun w => (dats m 0 c).arrAt w cfg0.N) 4)

/-- The probabilities' result, row by row. -/
theorem probs_value : Pipeline.afterTail₀ cfgs (dats m) 0 (V0 m) [hostOps1] c main_v0_1
    = fun i : S16x32x8192.Idx => rowSoftmax (argLogits m c (i 0) (i 1)) (i 2) := by
  rw [probs_tail, probs_array]
  funext i
  obtain ⟨b, p, l, rfl⟩ : ∃ (b : Fin 16) (p : Fin 32) (l : Fin 8192), i = (ix3 b p l : S16x32x8192.Idx) :=
    ⟨i 0, i 1, i 2, funext fun a => by fin_cases a <;> rfl⟩
  refine (unflat_apply _ b p l).trans ?_
  exact congrArg (fun x => rowSoftmax x l) (arrLogits_entry m c b p)

/-- The selections' result, row by row. -/
theorem sel_value : Pipeline.afterTail₀ cfgs (dats m) 0 (V0 m) [hostOps1] c main_v0_0
    = fun i : S16x32.Idx => firstMax (rowSoftmax (argLogits m c (i 0) (i 1))) := by
  rw [sel_tail, sel_array]
  funext i
  obtain ⟨b, p, rfl⟩ : ∃ (b : Fin 16) (p : Fin 32), i = (ix2 b p : S16x32.Idx) :=
    ⟨i 0, i 1, funext (Fin.forall_fin_two.mpr ⟨rfl, rfl⟩)⟩
  refine (unflat_sel_apply _ b p).trans ?_
  exact congrArg (fun x => firstMax (rowSoftmax x)) (arrLogits_entry m c b p)

/-- The kernel's program run to its end: both results, and the arguments as launched. -/
theorem kernel_run (ρ : Dev nD → PrngReg) :
    θ_run defs (onTc (τ := τ) (main (F := Ideal))) ⟨m, fun _ => 0, ρ⟩ (fun r => ∀ c : Dev nD,
      r.2.mem (c.tc.loc main_v0_0) = (fun i : S16x32.Idx => firstMax (rowSoftmax (argLogits m c (i 0) (i 1))))
      ∧ r.2.mem (c.tc.loc main_v0_1) = (fun i : S16x32x8192.Idx => rowSoftmax (argLogits m c (i 0) (i 1)) (i 2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) := by
  have rest : ∀ b : Ref sig .tc, b ∈ Pipeline.restRefs sig spec0 →
      ∀ r, Pipeline.FramePost cfgs (dats m) 0 (Pipeline.afterTail₀ cfgs (dats m) 0 (V0 m) [hostOps1]) r →
        ∀ c : Dev nD, r.2.mem (c.tc.loc b) = Pipeline.afterTail₀ cfgs (dats m) 0 (V0 m) [hostOps1] c b :=
    fun b hb r h c => (h c).2 b hb
  refine (θ_run defs _ _).mono (fun r h c => ?_) (run_main m ρ)
  have mem : ∀ b : Ref sig .tc, b.isScoped = false → (∀ w, Pipeline.arrRef spec0 w ≠ b) →
      r.2.mem (c.tc.loc b) = Pipeline.afterTail₀ cfgs (dats m) 0 (V0 m) [hostOps1] c b :=
    fun b hs hw => rest b (Pipeline.mem_restRefs_of b hs hw) r h c
  refine ⟨(mem main_v0_0 (by decide) (by decide)).trans (sel_value m c),
    (mem main_v0_1 (by decide) (by decide)).trans (probs_value m c),
    (mem main_arg0 (by decide) (by decide)).trans (W_main_arg0 m (dats m) c),
    (mem main_arg1 (by decide) (by decide)).trans (W_main_arg1 m (dats m) c),
    (mem main_arg2 (by decide) (by decide)).trans (W_main_arg2 m (dats m) c),
    (mem main_arg3 (by decide) (by decide)).trans (W_main_arg3 m (dats m) c),
    (mem main_arg4 (by decide) (by decide)).trans (W_main_arg4 m (dats m) c),
    (mem main_arg5 (by decide) (by decide)).trans (W_main_arg5 m (dats m) c),
    (mem main_arg6 (by decide) (by decide)).trans (W_main_arg6 m (dats m) c)⟩

end Cert.Proof
-- ==== Proof.RefRun.lean ====
/- What the reference leaves in its two result arrays, as terms of its arguments. -/
module

public import proofs.«01_k».proof.Defs
public import proofs.«01_k».proof.Proof.Gen.ReferenceIdeal
public import Idealize.ShloMosaic.Lib.Claim

@[expose] public section

set_option maxRecDepth 16384

noncomputable section

namespace Cert.Proof

open Idealize.ShloMosaic Idealize.SL.Sem
open Cert.ReferenceIdeal Cert.ReferenceIdeal.Facts₀

/-- The reference's hidden layer: the two features of a location against `W1`, the bias, the positive part. -/
def refHidden (d t : FVec Ideal S16x32x8192 .f32) (w1 : FVec Ideal S2x64 .f32) (b1 : FVec Ideal S64 .f32) :
    FVec Ideal S16x32x8192x64 .f32 :=
  maximumf
    (addf
      (Host.dotGeneral dot_S16x32x8192x2_S2x64_S16x32x8192x64_3_0_012_1_n_n none
        (concatenate S16x32x8192x2 3
          [⟨S16x32x8192x1, broadcastInDim S16x32x8192x1 ![0, 1, 2] bcast_S16x32x8192_S16x32x8192x1_0_1_2 d⟩,
           ⟨S16x32x8192x1, broadcastInDim S16x32x8192x1 ![0, 1, 2] bcast_S16x32x8192_S16x32x8192x1_0_1_2 t⟩]
          concatenates_S16x32x8192x1_S16x32x8192x1_S16x32x8192x2_d3) w1)
      (broadcastInDim S16x32x8192x64 ![0, 1, 2, 3] bcast_S1x1x1x64_S16x32x8192x64_0_1_2_3
        (broadcastInDim S1x1x1x64 ![3] bcast_S64_S1x1x1x64_3 b1)))
    (broadcastInDim S16x32x8192x64 ![] bcast_S_S16x32x8192x64 (constant S_ .f32 0x00000000#32))

/-- The reference's masked logits: the second layer of the hidden values, clipped by `10 tanh`, plus the mask. -/
def refLogits (h : FVec Ideal S16x32x8192x64 .f32) (mask : FVec Ideal S16x32x8192 .f32)
    (w2 : FVec Ideal S64x1 .f32) (b2 : FVec Ideal S1 .f32) : FVec Ideal S16x32x8192 .f32 :=
  addf
    (mulf (broadcastInDim S16x32x8192 ![] bcast_S_S16x32x8192 (constant S_ .f32 0x41200000#32))
      (Host.tanh
        (shapeCast S16x32x8192
          (addf (Host.dotGeneral dot_S16x32x8192x64_S64x1_S16x32x8192x1_3_0_012_1_n_n none h w2)
            (broadcastInDim S16x32x8192x1 ![0, 1, 2, 3] bcast_S1x1x1x1_S16x32x8192x1_0_1_2_3
              (broadcastInDim S1x1x1x1 ![3] bcast_S1_S1x1x1x1_3 b2)))
          shapeCasts_S16x32x8192x1_S16x32x8192)))
    mask

/-- The row maxima of the logits. -/
def refMax (x : FVec Ideal S16x32x8192 .f32) : FVec Ideal S16x32 .f32 :=
  maximumf (broadcastInDim S16x32 ![] bcast_S_S16x32 (constant S_ .f32 0xFF800000#32))
    (Host.reduce FloatOps.maximumf x (constant S_ .f32 0xFF800000#32) reducesTo_S16x32x8192_S16x32_d2 h_S_)

/-- The exponentials of the logits less their row maxima. -/
def refExps (x : FVec Ideal S16x32x8192 .f32) (m : FVec Ideal S16x32 .f32) : FVec Ideal S16x32x8192 .f32 :=
  Host.exp (subf x
    (broadcastInDim S16x32x8192 ![0, 1, 2] bcast_S16x32x1_S16x32x8192_0_1_2
      (broadcastInDim S16x32x1 ![0, 1] bcast_S16x32_S16x32x1_0_1 m)))

/-- The softmax of the logits along the last axis. -/
def refProbs (e : FVec Ideal S16x32x8192 .f32) : FVec Ideal S16x32x8192 .f32 :=
  Host.divf e
    (broadcastInDim S16x32x8192 ![0, 1, 2] bcast_S16x32x1_S16x32x8192_0_1_2
      (broadcastInDim S16x32x1 ![0, 1] bcast_S16x32_S16x32x1_0_1
        (Host.reduceAdd e (constant S_ .f32 0x00000000#32) reducesTo_S16x32x8192_S16x32_d2 h_S_)))

/-- The index of the greatest probability of each row. -/
def refSel (p : FVec Ideal S16x32x8192 .f32) : IVec S16x32 32 := fun j =>
  (Host.argReduce reducer_argmax_f32_i32 p (iotaInDim S16x32x8192 32 2) (constant S_ .f32 0xFF800000#32)
    (constantI S_ 32 0#32) reducesTo_S16x32x8192_S16x32_d2 h_S_ j).2

/-- The reference's probabilities from its arguments. -/
def refResult (d t mask : FVec Ideal S16x32x8192 .f32) (w1 : FVec Ideal S2x64 .f32) (b1 : FVec Ideal S64 .f32)
    (w2 : FVec Ideal S64x1 .f32) (b2 : FVec Ideal S1 .f32) : FVec Ideal S16x32x8192 .f32 :=
  refProbs (refExps (refLogits (refHidden d t w1 b1) mask w2 b2) (refMax (refLogits (refHidden d t w1 b1) mask w2 b2)))

/-- The reference runs, and ends with its selections and probabilities in its result arrays. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v28)
          = refSel (refResult (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)))
      ∧ r.2.mem ((c.tc : Thread nD τ).loc main_v27)
          = refResult (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  all_goals (simp only [StableHlo.TRef.ofBuf, StableHlo.TRef.toBuf, cast_eq]; rfl)

end Cert.Proof

end
-- ==== Proof.RefValue.lean ====
/- The reference's results, entry by entry, where its mask and first bias are zero. -/
module

public import proofs.«01_k».proof.Proof.RefRun
public import proofs.«01_k».proof.Proof.Spec

@[expose] public section

set_option maxRecDepth 16384

noncomputable section

namespace Cert.Proof

open Idealize.ShloMosaic Idealize.SL.Sem
open Cert.ReferenceIdeal Cert.ReferenceIdeal.Facts₀

/-- The hidden layer, entry by entry, where the first bias is zero. -/
theorem refHidden_apply (d t : FVec Ideal S16x32x8192 .f32) (w1 : FVec Ideal S2x64 .f32) (b1 : FVec Ideal S64 .f32)
    (hb : ∀ k, b1 (ix1 k) = 0) (b : Fin 16) (p : Fin 32) (l : Fin 8192) (k : Fin 64) :
    refHidden d t w1 b1 (ix4 b p l k)
      = max (d (ix3 b p l) * w1 (ix2 0 k) + t (ix3 b p l) * w1 (ix2 1 k)) 0 := by
  unfold refHidden
  pointwise
  simp [hb]

/-- The logits, entry by entry, where the mask is zero. -/
theorem refLogits_apply (h : FVec Ideal S16x32x8192x64 .f32) (mask : FVec Ideal S16x32x8192 .f32)
    (w2 : FVec Ideal S64x1 .f32) (b2 : FVec Ideal S1 .f32) (hm : ∀ i, mask i = 0)
    (b : Fin 16) (p : Fin 32) (l : Fin 8192) :
    refLogits h mask w2 b2 (ix3 b p l)
      = logit (b2 (ix1 0)) (∑ k : Fin 64, h (ix4 b p l k) * w2 (ix2 k 0)) := by
  unfold refLogits
  pointwise
  rw [hm, add_zero]
  rfl

/-- The greatest of a row of the logits, as the reference reduces it. -/
theorem refReduce_apply (x : FVec Ideal S16x32x8192 .f32) (b : Fin 16) (p : Fin 32) :
    Host.reduce FloatOps.maximumf x (constant S_ .f32 0xFF800000#32) reducesTo_S16x32x8192_S16x32_d2 h_S_ (ix2 b p)
      = rowMax (fun l => x (ix3 b p l)) := by
  pointwise
  rw [neg_inf_word, rowMax]

/-- The greater of two vectors at an index. -/
theorem maximumf_at {s : Shape} (a b : FVec Ideal s .f32) (i : s.Idx) : maximumf a b i = max (a i) (b i) := rfl

/-- The row maxima. -/
theorem refMax_eq (x : FVec Ideal S16x32x8192 .f32) :
    refMax x = fun i => rowMax (fun l => x (ix3 (i 0) (i 1) l)) := by
  have h := refReduce_apply x
  unfold refMax
  generalize Host.reduce FloatOps.maximumf x (constant S_ .f32 0xFF800000#32) reducesTo_S16x32x8192_S16x32_d2 h_S_ = m
    at h ⊢
  funext i
  have hc : broadcastInDim S16x32 ![] bcast_S_S16x32 (constant (F := Ideal) S_ .f32 0xFF800000#32) i = ⊥ := neg_inf_word
  rw [maximumf_at, hc, max_eq_right bot_le]
  idx_vars i
  exact h i0 i1

/-- The exponentials, entry by entry, of any row maxima. -/
theorem refExps_apply (x : FVec Ideal S16x32x8192 .f32) (m : FVec Ideal S16x32 .f32) (b : Fin 16) (p : Fin 32)
    (l : Fin 8192) : refExps x m (ix3 b p l) = Ideal.exp (x (ix3 b p l) - m (ix2 b p)) := by
  unfold refExps
  pointwise

/-- The quotients by the row sums. -/
theorem refProbs_eq (e : FVec Ideal S16x32x8192 .f32) :
    refProbs e = fun i => Ideal.div (e i) (∑ k : Fin 8192, e (ix3 (i 0) (i 1) k)) := by
  unfold refProbs
  funext i
  idx_vars i
  pointwise

/-- The probabilities, entry by entry, where the mask and the first bias are zero: the softmax of the row's logits. -/
theorem refResult_apply (d t mask : FVec Ideal S16x32x8192 .f32) (w1 : FVec Ideal S2x64 .f32) (b1 : FVec Ideal S64 .f32)
    (w2 : FVec Ideal S64x1 .f32) (b2 : FVec Ideal S1 .f32) (hm : ∀ i, mask i = 0) (hb : ∀ k, b1 (ix1 k) = 0)
    (b : Fin 16) (p : Fin 32) (l : Fin 8192) :
    refResult d t mask w1 b1 w2 b2 (ix3 b p l)
      = rowSoftmax (fun l => logit (b2 (ix1 0)) (score (fun k => w1 (ix2 0 k)) (fun k => w1 (ix2 1 k))
          (fun k => w2 (ix2 k 0)) (d (ix3 b p l)) (t (ix3 b p l)))) l := by
  have hx : ∀ l, refLogits (refHidden d t w1 b1) mask w2 b2 (ix3 b p l)
      = logit (b2 (ix1 0)) (score (fun k => w1 (ix2 0 k)) (fun k => w1 (ix2 1 k))
          (fun k => w2 (ix2 k 0)) (d (ix3 b p l)) (t (ix3 b p l))) := fun l => by
    rw [refLogits_apply _ _ _ _ hm]
    simp only [refHidden_apply _ _ _ _ hb, score]
  unfold refResult
  generalize refLogits (refHidden d t w1 b1) mask w2 b2 = x at hx ⊢
  have he : ∀ l, refExps x (refMax x) (ix3 b p l) = rowExp (fun l => x (ix3 b p l)) l := fun l => by
    have hmax : refMax x (ix2 b p) = rowMax (fun l => x (ix3 b p l)) := congrFun (refMax_eq x) (ix2 b p)
    rw [refExps_apply, hmax, rowExp, Ideal.exp_def]
  rw [refProbs_eq]
  generalize refExps x (refMax x) = e at he ⊢
  show Ideal.div (e (ix3 b p l)) (∑ k : Fin 8192, e (ix3 b p k)) = _
  simp only [he]
  rw [funext hx, rowSoftmax, Ideal.divf_def]

end Cert.Proof

end
-- ==== Proof.Argmax.lean ====
/- The reference's arg-max reduction and the kernel's least index at the maximum are the same index. -/
module

public import proofs.«01_k».proof.Proof.RefRun
public import proofs.«01_k».proof.Proof.Spec

@[expose] public section

set_option maxRecDepth 16384

noncomputable section

namespace Cert.Proof

open Idealize.ShloMosaic Idealize.SL.Sem
open Cert.ReferenceIdeal Cert.ReferenceIdeal.Facts₀

/-! ### The least index at the maximum -/

/-- The least of two words is below a bound as an integer exactly when one of them is. -/
theorem minsi_toInt (x y : BitVec 32) : (IntOp.minsi x y).toInt = min x.toInt y.toInt := by
  unfold IntOp.minsi
  by_cases h : x.slt y
  · rw [if_pos h]
    rw [BitVec.slt_iff_toInt_lt] at h
    omega
  · rw [if_neg h]
    rw [BitVec.slt_iff_toInt_lt] at h
    omega

/-- The integer a small index's word reads as. -/
theorem toInt_index (k : Fin 8192) : (BitVec.ofNat 32 k.val).toInt = k.val := by
  have := k.isLt
  rw [BitVec.toInt_eq_toNat_cond, BitVec.toNat_ofNat]
  omega

/-- An index at the maximum with no such index before it is the first. -/
theorem firstMax_eq (p : Fin 8192 → EReal) (k : Fin 8192) (hk : p k = rowMax p)
    (hle : ∀ l, p l = rowMax p → k.val ≤ l.val) : firstMax p = BitVec.ofNat 32 k.val := by
  refine BitVec.eq_of_toInt_eq (le_antisymm ?_ ?_)
  · refine (Finset.fold_op_rel_iff_or (r := fun x y : BitVec 32 => y.toInt ≤ x.toInt)
      (fun {x y z} => by rw [minsi_toInt]; exact min_le_iff)).mpr (Or.inr ⟨k, Finset.mem_univ k, ?_⟩)
    rw [if_pos hk]
  · refine (Finset.fold_op_rel_iff_and (r := fun x y : BitVec 32 => x.toInt ≤ y.toInt)
      (fun {x y z} => by rw [minsi_toInt]; exact le_min_iff)).mpr ⟨?_, fun l _ => ?_⟩
    · rw [toInt_index]
      have := k.isLt
      have : (2147483647#32).toInt = 2147483647 := by decide
      omega
    · rw [toInt_index]
      split
      · rename_i h
        rw [toInt_index]
        exact_mod_cast hle l h
      · have := k.isLt
        have : (8192#32).toInt = 8192 := by decide
        omega

/-- Every value of a row is below its maximum. -/
theorem le_rowMax (p : Fin 8192 → EReal) (l : Fin 8192) : p l ≤ rowMax p :=
  (Finset.fold_op_rel_iff_or (r := fun x y : EReal => x ≤ y) (fun {_ _ _} => le_max_iff)).mpr
    (Or.inr ⟨l, Finset.mem_univ l, le_rfl⟩)

/-- A bound of every value of a row bounds its maximum. -/
theorem rowMax_le (p : Fin 8192 → EReal) (v : EReal) (h : ∀ l, p l ≤ v) : rowMax p ≤ v :=
  (Finset.fold_op_rel_iff_and (r := fun x y : EReal => y ≤ x) (fun {_ _ _} => max_le_iff)).mpr
    ⟨bot_le, fun l _ => h l⟩

/-! ### The reference's reducer -/

/-- One pair is no better than another: its value is less, or equal with an index not before. -/
def Beats (r q : EReal × BitVec 32) : Prop := q.1 < r.1 ∨ q.1 = r.1 ∧ r.2.toInt ≤ q.2.toInt

theorem Beats.trans {a b c : EReal × BitVec 32} (h : Beats a b) (h' : Beats b c) : Beats a c := by
  rcases h with h | ⟨h, g⟩ <;> rcases h' with h' | ⟨h', g'⟩
  · exact .inl (h'.trans h)
  · exact .inl (h' ▸ h)
  · exact .inl (h ▸ h')
  · exact .inr ⟨h'.trans h, g.trans g'⟩

/-- The reducer keeps one of its two pairs, the one that beats the other. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨av, ai⟩ := a
  obtain ⟨bv, bi⟩ := b
  rcases lt_trichotomy av bv with h | h | h
  · have e : reducer_argmax_f32_i32 (F := Ideal) (av, ai) (bv, bi) = (bv, bi) := by
      simp [reducer_argmax_f32_i32, Ideal.cmpf_def, Ideal.cmp, h.ne, h.not_gt, Scalar.select, IntOp.ori, IntOp.andi]
    rw [e]
    exact ⟨.inr rfl, .inl h, .inr ⟨rfl, le_rfl⟩⟩
  · subst h
    by_cases hi : ai.toInt < bi.toInt
    · have hs : ai.slt bi = true := BitVec.slt_iff_toInt_lt.mpr hi
      have e : reducer_argmax_f32_i32 (F := Ideal) (av, ai) (av, bi) = (av, ai) := by
        simp [reducer_argmax_f32_i32, Ideal.cmpf_def, Ideal.cmp, Scalar.select, IntOp.ori, IntOp.andi, IntOp.cmpi, hs]
      rw [e]
      exact ⟨.inl rfl, .inr ⟨rfl, le_rfl⟩, .inr ⟨rfl, hi.le⟩⟩
    · have hs : ai.slt bi = false := by
        rw [← Bool.not_eq_true, BitVec.slt_iff_toInt_lt]
        exact hi
      have e : reducer_argmax_f32_i32 (F := Ideal) (av, ai) (av, bi) = (av, bi) := by
        simp [reducer_argmax_f32_i32, Ideal.cmpf_def, Ideal.cmp, Scalar.select, IntOp.ori, IntOp.andi, IntOp.cmpi, hs]
      rw [e]
      exact ⟨.inr rfl, .inr ⟨rfl, not_lt.mp hi⟩, .inr ⟨rfl, le_rfl⟩⟩
  · have e : reducer_argmax_f32_i32 (F := Ideal) (av, ai) (bv, bi) = (av, ai) := by
      simp [reducer_argmax_f32_i32, Ideal.cmpf_def, Ideal.cmp, h, h.ne', Scalar.select, IntOp.ori, IntOp.andi]
    rw [e]
    exact ⟨.inl rfl, .inr ⟨rfl, le_rfl⟩, .inl h⟩

/-- Folding the reducer over a list keeps one of the pairs, and that pair beats them all. -/
theorem foldl_reducer (l : List (EReal × BitVec 32)) (a : EReal × BitVec 32) :
    (l.foldl (reducer_argmax_f32_i32 (F := Ideal)) a = a ∨ l.foldl (reducer_argmax_f32_i32 (F := Ideal)) a ∈ l)
      ∧ Beats (l.foldl (reducer_argmax_f32_i32 (F := Ideal)) a) a
      ∧ ∀ q ∈ l, Beats (l.foldl (reducer_argmax_f32_i32 (F := Ideal)) a) q := by
  induction l generalizing a with
  | nil => exact ⟨.inl rfl, .inr ⟨rfl, le_rfl⟩, by simp⟩
  | cons b l ih =>
    obtain ⟨h1, h2, h3⟩ := ih (reducer_argmax_f32_i32 (F := Ideal) a b)
    obtain ⟨g1, g2, g3⟩ := reducer_spec a b
    refine ⟨?_, h2.trans g2, ?_⟩
    · rcases h1 with h1 | h1
      · rcases g1 with g1 | g1
        · exact .inl (h1.trans g1)
        · exact .inr (by rw [List.foldl_cons, h1, g1]; exact List.mem_cons_self)
      · exact .inr (List.mem_cons_of_mem _ h1)
    · intro q hq
      rcases List.mem_cons.mp hq with rfl | hq
      · exact h2.trans g3
      · exact h3 q hq

/-- The pairs that the reference folds for one row: its values with their indices. -/
theorem mem_fiber (x : FVec Ideal S16x32x8192 .f32) (b : Fin 16) (p : Fin 32) (q : EReal × BitVec 32) :
    q ∈ Host.argReduceFiber x (iotaInDim S16x32x8192 32 2) reducesTo_S16x32x8192_S16x32_d2 (ix2 b p)
      ↔ ∃ l : Fin 8192, q = (x (ix3 b p l), BitVec.ofNat 32 l.val) := by
  have hdrop : ∀ i : S16x32x8192.Idx,
      reducesTo_S16x32x8192_S16x32_d2.drop i = ix2 b p ↔ i = ix3 b p (i 2) := fun i => by
    have d0 := Shape.ReducesTo.drop_apply_val_of_eq reducesTo_S16x32x8192_S16x32_d2 i 0 0
    have d1 := Shape.ReducesTo.drop_apply_val_of_eq reducesTo_S16x32x8192_S16x32_d2 i 1 1
    constructor
    · intro h
      rw [h] at d0 d1
      funext a
      fin_cases a
      · exact Fin.ext d0.symm
      · exact Fin.ext d1.symm
      · rfl
    · intro h
      rw [h] at d0 d1
      refine funext (Fin.forall_fin_two.mpr ⟨Fin.ext ?_, Fin.ext ?_⟩)
      · rw [h]; exact d0
      · rw [h]; exact d1
  unfold Host.argReduceFiber
  simp only [List.mem_map, List.mem_filter, List.mem_finRange, true_and, decide_eq_true_eq, hdrop]
  constructor
  · rintro ⟨n, hn, rfl⟩
    refine ⟨S16x32x8192.rowMajor.symm n 2, Prod.ext (congrArg x hn) rfl⟩
  · rintro ⟨l, rfl⟩
    refine ⟨S16x32x8192.rowMajor (ix3 b p l), ?_, ?_⟩
    · rw [Equiv.symm_apply_apply]; rfl
    · rw [Equiv.symm_apply_apply]; rfl

/-- A pair that is the start or one of a row's, and beats the start and the row, holds the row's first greatest index. -/
theorem index_of_beats (f : Fin 8192 → EReal) (r : EReal × BitVec 32)
    (h1 : r = (⊥, 0#32) ∨ ∃ l : Fin 8192, r = (f l, BitVec.ofNat 32 l.val))
    (h3 : ∀ l : Fin 8192, Beats r (f l, BitVec.ofNat 32 l.val)) :
    r.2 = firstMax f := by
  have hle : ∀ l, f l ≤ r.1 := fun l => by
    rcases h3 l with h | ⟨h, _⟩
    · exact h.le
    · exact h.le
  obtain ⟨k, hk, hr⟩ : ∃ k : Fin 8192, f k = r.1 ∧ r.2 = BitVec.ofNat 32 k.val := by
    rcases h1 with h | ⟨l, h⟩
    · refine ⟨0, ?_, by rw [h]; rfl⟩
      have := hle 0
      rw [h] at this ⊢
      exact le_bot_iff.mp this
    · exact ⟨l, by rw [h], by rw [h]⟩
  have hmax : rowMax f = r.1 := le_antisymm (rowMax_le f _ hle) (hk ▸ le_rowMax f k)
  rw [hr]
  refine (firstMax_eq f k (hk.trans hmax.symm) fun l hl => ?_).symm
  rcases h3 l with h | ⟨_, h⟩
  · exact absurd (hl.trans hmax) h.ne
  · rw [hr] at h
    have h : (BitVec.ofNat 32 k.val).toInt ≤ (BitVec.ofNat 32 l.val).toInt := h
    rw [toInt_index, toInt_index] at h
    exact_mod_cast h

/-- The reference's selections are the first indices at which the rows are greatest. -/
theorem refSel_eq (x : FVec Ideal S16x32x8192 .f32) :
    refSel x = fun j => firstMax fun l => x (ix3 (j 0) (j 1) l) := by
  unfold refSel
  funext j
  obtain ⟨b, p, rfl⟩ : ∃ (b : Fin 16) (p : Fin 32), j = (ix2 b p : S16x32.Idx) :=
    ⟨j 0, j 1, funext (Fin.forall_fin_two.mpr ⟨rfl, rfl⟩)⟩
  rw [Ideal.argReduce_eq_reduce2, Host.reduce2_eq_foldl_fiber]
  have hinit : ((constant (F := Ideal) S_ .f32 0xFF800000#32 (Shape.Idx.first h_S_),
      constantI S_ 32 0#32 (Shape.Idx.first h_S_)) : EReal × BitVec 32) = (⊥, 0#32) := Prod.ext neg_inf_word rfl
  obtain ⟨h1, -, h3⟩ := foldl_reducer (Host.argReduceFiber x (iotaInDim S16x32x8192 32 2)
    reducesTo_S16x32x8192_S16x32_d2 (ix2 b p))
    (constant (F := Ideal) S_ .f32 0xFF800000#32 (Shape.Idx.first h_S_), constantI S_ 32 0#32 (Shape.Idx.first h_S_))
  refine index_of_beats _ _ (h1.imp (·.trans hinit) (mem_fiber x b p _).mp) fun l => h3 _ ?_
  exact (mem_fiber x b p _).mpr ⟨l, rfl⟩

end Cert.Proof

end
-- ==== Proof.Value.lean ====
/- The value claim: the kernel's two results are the reference's. -/
module

public import proofs.«01_k».proof.Defs
public import proofs.«01_k».proof.Proof.Pre
public import proofs.«01_k».proof.Proof.KernelRun
public import proofs.«01_k».proof.Proof.RefValue
public import proofs.«01_k».proof.Proof.Argmax

@[expose] public section

noncomputable section

namespace Cert.Proof

open Idealize.ShloMosaic Idealize.ShloMosaic.TcCoe Idealize.SL.Sem

/-- The reference's probabilities of the kernel's arguments, as the kernel leaves them. -/
theorem probs_agree (m : (ℓ : Loc KernelIdeal.nD KernelIdeal.τ KernelIdeal.sig) → Buf (Elt Ideal) ℓ)
    (h : Cert.Pre_KernelIdeal_zero_mask_and_bias m) (c : Dev KernelIdeal.nD) :
    refResult (m (c.tc.loc KernelIdeal.main_arg0)) (m (c.tc.loc KernelIdeal.main_arg1)) (m (c.tc.loc KernelIdeal.main_arg2))
        (m (c.tc.loc KernelIdeal.main_arg3)) (m (c.tc.loc KernelIdeal.main_arg4)) (m (c.tc.loc KernelIdeal.main_arg5))
        (m (c.tc.loc KernelIdeal.main_arg6))
      = fun i : KernelIdeal.S16x32x8192.Idx => rowSoftmax (argLogits m c (i 0) (i 1)) (i 2) := by
  obtain ⟨hm, hb⟩ := zero_of_pre _ _ _ _ _ _ _ (h c)
  funext i
  obtain ⟨b, p, l, rfl⟩ : ∃ (b : Fin 16) (p : Fin 32) (l : Fin 8192), i = (ix3 b p l : KernelIdeal.S16x32x8192.Idx) :=
    ⟨i 0, i 1, i 2, funext fun a => by fin_cases a <;> rfl⟩
  exact refResult_apply _ _ _ _ _ _ _ hm (fun k => hb (ix1 k)) b p l

/-- The reference's selections of such probabilities. -/
theorem sel_agree (x : Fin 16 → Fin 32 → Fin 8192 → EReal) :
    refSel (fun i : KernelIdeal.S16x32x8192.Idx => rowSoftmax (x (i 0) (i 1)) (i 2))
      = fun i : KernelIdeal.S16x32.Idx => firstMax (rowSoftmax (x (i 0) (i 1))) := by
  rw [refSel_eq]
  rfl

/-- Kernel and reference agree over the extended reals. -/
theorem value : Cert.algebraic_KernelIdeal_ReferenceIdeal_pre_zero_mask_and_bias := by
  intro m g m' g' hpre harg
  refine ⟨fun c => (fun i : KernelIdeal.S16x32.Idx => firstMax (rowSoftmax (argLogits m c (i 0) (i 1)))),
    fun c => (fun i : KernelIdeal.S16x32x8192.Idx => rowSoftmax (argLogits m c (i 0) (i 1)) (i 2)),
    kernel_run m g, ?_⟩
  refine (θ_run ReferenceIdeal.defs _ _).mono (fun r h c => ?_) (ref_run m' g')
  obtain ⟨hs, hp, rest⟩ := h c
  obtain ⟨e0, e1, e2, e3, e4, e5, e6⟩ := harg c
  rw [e0, e1, e2, e3, e4, e5, e6] at hs hp
  have hv := probs_agree m hpre c
  exact ⟨hs.trans ((congrArg refSel hv).trans (sel_agree (argLogits m c))), hp.trans hv, rest⟩

end Cert.Proof

end
-- ==== Proof.lean ====
/- The certificate: every conjunct of `Cert.Claim`. The frames are the generated ones; the reference's frame
   and the value claim are proved in the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_zero_mask_and_bias
public import proofs.«01_k».proof.Proof.Value
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

/-- The reference runs, leaves its arguments unchanged and every counter at zero. -/
theorem frame_R : Cert.quiescent_ReferenceIdeal := by
  intro m g _
  exact (θ_run ReferenceIdeal.defs _ _).mono (fun r h => ⟨fun c => (h c).2.2, sem_eq_zero_of_no_sems rfl _⟩) (ref_run m g)

/-- All the claims together. -/
theorem claim : Cert.Claim :=
  ⟨Cert.Kernel.Gen.facts, Cert.KernelIdeal.Gen.facts, Cert.ReferenceIdeal.Gen.facts,
    Cert.Pre_zero_mask_and_bias.Gen.facts,
    fun m ρ _ => Cert.Kernel.Gen.frame m ρ, fun m ρ _ => Cert.KernelIdeal.Gen.frame m ρ,
    fun m ρ _ => Cert.KernelIdeal.Gen.frame m ρ, frame_R, fun m ρ _ => frame_R m ρ trivial, trivial, value⟩

end Cert.Proof

end
